-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S1000x128 : Shape := ⟨2, ![1000, 128]⟩
abbrev S1000 : Shape := ⟨1, ![1000]⟩
abbrev S1x1000 : Shape := ⟨2, ![1, 1000]⟩
abbrev S1024x1000 : Shape := ⟨2, ![1024, 1000]⟩
abbrev S512x128 : Shape := ⟨2, ![512, 128]⟩
abbrev S512x1000 : Shape := ⟨2, ![512, 1000]⟩
abbrev S512 : Shape := ⟨1, ![512]⟩
abbrev S512x1 : Shape := ⟨2, ![512, 1]⟩
abbrev S1x128 : Shape := ⟨2, ![1, 128]⟩

abbrev nBuf : Space → Nat
  | .hbm => 5
  | .vmem => 6
  | .smem => 0
  | _ => 0

abbrev bufTy : (tb : Table) → Fin (tcTables nBuf tb) → BufTy
  | .hbm, ⟨0, _⟩ => ⟨S1024x128, .f32⟩
  | .hbm, ⟨1, _⟩ => ⟨S1000x128, .f32⟩
  | .hbm, ⟨2, _⟩ => ⟨S1000, .f32⟩
  | .hbm, ⟨3, _⟩ => ⟨S1x1000, .f32⟩
  | .hbm, ⟨4, _⟩ => ⟨S1024x1000, .f32⟩
  | .local _ .vmem, ⟨0, _⟩ => ⟨S512x128, .f32⟩
  | .local _ .vmem, ⟨1, _⟩ => ⟨S512x128, .f32⟩
  | .local _ .vmem, ⟨2, _⟩ => ⟨S1000x128, .f32⟩
  | .local _ .vmem, ⟨3, _⟩ => ⟨S1x1000, .f32⟩
  | .local _ .vmem, ⟨4, _⟩ => ⟨S512x1000, .f32⟩
  | .local _ .vmem, ⟨5, _⟩ => ⟨S512x1000, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x128 : Shape := ⟨2, ![1024, 128]⟩
abbrev S1000x128 : Shape := ⟨2, ![1000, 128]⟩
abbrev S1000 : Shape := ⟨1, ![1000]⟩
abbrev S1024x1x128 : Shape := ⟨3, ![1024, 1, 128]⟩
abbrev S1x1000x128 : Shape := ⟨3, ![1, 1000, 128]⟩
abbrev S1024x1000x128 : Shape := ⟨3, ![1024, 1000, 128]⟩
abbrev S_ : Shape := ⟨0, ![]⟩
abbrev S1024x1000 : Shape := ⟨2, ![1024, 1000]⟩
abbrev S1024 : Shape := ⟨1, ![1024]⟩
abbrev S1024x1 : Shape := ⟨2, ![1024, 1]⟩
abbrev S1x1000 : Shape := ⟨2, ![1, 1000]⟩

abbrev nBuf : Space → Nat
  | .hbm => 29
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1000x128, .f32⟩
  | .hbm, ⟨2, _⟩ => ⟨S1000, .f32⟩
  | .hbm, ⟨3, _⟩ => ⟨S1024x1x128, .f32⟩
  | .hbm, ⟨4, _⟩ => ⟨S1x1000x128, .f32⟩
  | .hbm, ⟨5, _⟩ => ⟨S1024x1000x128, .f32⟩
  | .hbm, ⟨6, _⟩ => ⟨S1024x1000x128, .f32⟩
  | .hbm, ⟨7, _⟩ => ⟨S1024x1000x128, .f32⟩
  | .hbm, ⟨8, _⟩ => ⟨S1x1000x128, .f32⟩
  | .hbm, ⟨9, _⟩ => ⟨S1024x1000x128, .f32⟩
  | .hbm, ⟨10, _⟩ => ⟨S1024x1000x128, .f32⟩
  | .hbm, ⟨11, _⟩ => ⟨S1024x1000x128, .f32⟩
  | .hbm, ⟨12, _⟩ => ⟨S1024x1000x128, .f32⟩
  | .hbm, ⟨13, _⟩ => ⟨S_, .f32⟩
  | .hbm, ⟨14, _⟩ => ⟨S1024x1000, .f32⟩
  | .hbm, ⟨15, _⟩ => ⟨S1024x1000, .f32⟩
  | .hbm, ⟨16, _⟩ => ⟨S_, .f32⟩
  | .hbm, ⟨17, _⟩ => ⟨S1000, .f32⟩
  | .hbm, ⟨18, _⟩ => ⟨S1000, .i1⟩
  | .hbm, ⟨19, _⟩ => ⟨S_, .f32⟩
  | .hbm, ⟨20, _⟩ => ⟨S1024, .f32⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1x1000, .i1⟩
  | .hbm, ⟨26, _⟩ => ⟨S1024x1000, .i1⟩
  | .hbm, ⟨27, _⟩ => ⟨S1024x1000, .f32⟩
  | .hbm, ⟨28, _⟩ => ⟨S1024x1000, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Algebra.lean ====
/-
  The arithmetic behind the kernel's formula: over the extended reals, twice the inner product less the two
  squared norms is the negated squared distance, at infinite entries too.
-/
module

public import Mathlib.Data.EReal.Operations
public import Mathlib.Algebra.BigOperators.Group.Finset.Basic
public import Mathlib.Algebra.BigOperators.Ring.Finset
public import Mathlib.Algebra.Order.BigOperators.Group.Finset
public import Mathlib.Tactic.Ring

@[expose] public section

noncomputable section

namespace Cert.Ncm

open scoped BigOperators

variable {ι : Type} [Fintype ι]

/-- A finite sum of nonnegative extended reals with an infinite term is infinite. -/
theorem sum_eq_top (f : ι → EReal) (hf : ∀ i, 0 ≤ f i) (i : ι) (hi : f i = ⊤) : ∑ j, f j = ⊤ :=
  top_le_iff.mp (hi ▸ Finset.single_le_sum (fun j _ => hf j) (Finset.mem_univ i))

/-- A sum of reals, read in the extended reals, is the sum of the terms read there. -/
theorem coe_sum (f : ι → ℝ) : ((∑ k, f k : ℝ) : EReal) = ∑ k, (f k : EReal) := by
  classical
  induction (Finset.univ : Finset ι) using Finset.induction_on with
  | empty => simp
  | insert a s ha ih => rw [Finset.sum_insert ha, Finset.sum_insert ha, EReal.coe_add, ih]

/-- A square is nonnegative. -/
theorem sq_nonneg (a : EReal) : 0 ≤ a * a := by
  induction a using EReal.rec with
  | bot => simp
  | top => simp
  | coe r => rw [← EReal.coe_mul]; exact EReal.coe_nonneg.mpr (mul_self_nonneg r)

/-- The square of an infinity is `⊤`. -/
theorem sq_of_infinite {a : EReal} (h : a = ⊤ ∨ a = ⊥) : a * a = ⊤ := by
  rcases h with rfl | rfl <;> simp

/-- A difference with an infinite side is infinite (`⊤ - ⊤` and `⊥ - ⊥` are `⊥`). -/
theorem sub_infinite {a b : EReal} (h : (a = ⊤ ∨ a = ⊥) ∨ (b = ⊤ ∨ b = ⊥)) : a - b = ⊤ ∨ a - b = ⊥ := by
  induction a using EReal.rec <;> induction b using EReal.rec <;> simp_all [sub_eq_add_neg]

/-- THE EXPANSION OF THE SQUARE, without any assumption of finiteness: where an entry is infinite, both sides are `⊥`. -/
theorem expand_sq (x μ : ι → EReal) :
    (∑ k, (x k + x k) * μ k) - (∑ k, x k * x k) - (∑ k, μ k * μ k) = -∑ k, (μ k - x k) * (μ k - x k) := by
  by_cases h : ∃ k, (μ k = ⊤ ∨ μ k = ⊥) ∨ (x k = ⊤ ∨ x k = ⊥)
  · obtain ⟨k, hk⟩ := h
    rw [sum_eq_top (fun k => (μ k - x k) * (μ k - x k)) (fun _ => sq_nonneg _) k (sq_of_infinite (sub_infinite hk)),
      EReal.neg_top]
    rcases hk with hk | hk
    · rw [sum_eq_top (fun k => μ k * μ k) (fun _ => sq_nonneg _) k (sq_of_infinite hk), sub_eq_add_neg, EReal.neg_top,
        EReal.add_bot]
    · rw [sum_eq_top (fun k => x k * x k) (fun _ => sq_nonneg _) k (sq_of_infinite hk), sub_eq_add_neg, sub_eq_add_neg,
        EReal.neg_top, EReal.add_bot, EReal.bot_add]
  · have hμ : ∀ k, ∃ r : ℝ, (r : EReal) = μ k := fun k =>
      ⟨(μ k).toReal, EReal.coe_toReal (fun e => h ⟨k, .inl (.inl e)⟩) (fun e => h ⟨k, .inl (.inr e)⟩)⟩
    have hx : ∀ k, ∃ r : ℝ, (r : EReal) = x k := fun k =>
      ⟨(x k).toReal, EReal.coe_toReal (fun e => h ⟨k, .inr (.inl e)⟩) (fun e => h ⟨k, .inr (.inr e)⟩)⟩
    choose b hb using hμ
    choose a ha using hx
    simp only [← hb, ← ha, ← EReal.coe_add, ← EReal.coe_sub, ← EReal.coe_mul, ← coe_sum, ← EReal.coe_neg]
    rw [EReal.coe_eq_coe_iff, ← Finset.sum_sub_distrib, ← Finset.sum_sub_distrib, ← Finset.sum_neg_distrib]
    exact Finset.sum_congr rfl fun k _ => by ring

end Cert.Ncm

end
-- ==== Proof.Spec.lean ====
/-
  What kernel and reference both compute, element by element: the score of a sample against a class mean, and the
  row of scores in which every class that was never visited reads the row's minimum less one.
-/
module

public import proofs.«01_k».proof.Proof.Algebra
public import Idealize.ShloMosaic.Lib.Pointwise

@[expose] public section

noncomputable section

namespace Cert.Ncm

open Idealize.ShloMosaic
open scoped BigOperators

/-- The score of a sample `x` against a class mean `μ`: the negated squared distance. -/
def score (x μ : Fin 128 → EReal) : EReal := -∑ k, (μ k - x k) * (μ k - x k)

/-- The least score of a sample over all classes (`⊤` over no class). -/
def least (x : Fin 128 → EReal) (μ : Fin 1000 → Fin 128 → EReal) : EReal :=
  Finset.univ.fold min ⊤ fun l => score x (μ l)

/-- The result for class `l`: its score, or the row's least score less one where the class's count is zero. -/
def entry (x : Fin 128 → EReal) (μ : Fin 1000 → Fin 128 → EReal) (count : Fin 1000 → EReal) (l : Fin 1000) : EReal :=
  if count l = 0 then least x μ - 1 else score x (μ l)

/-- The word of `+∞`, with which both programs start the minimum, is `⊤`. -/
theorem ofBits_inf : Ideal.ofBits .f32 0x7F800000#32 = ⊤ := by simp [Ideal.ofBits, Ideal.ieee]

/-- The kernel's expression for a score (twice the inner product less the two squared norms) is the score. -/
theorem score_expanded (x μ : Fin 128 → EReal) :
    (∑ k, (x k + x k) * μ k) - (∑ k, x k * x k) - (∑ k, μ k * μ k) = score x μ := expand_sq x μ

end Cert.Ncm

end
-- ==== Proof.Payload.lean ====
/-
  One block of the kernel: what the body stores, read at an index of the block, is `entry` of the sample's row, the
  class means and the counts.
-/
module

public import proofs.«01_k».proof.Proof.Gen.KernelIdeal.Frame
public import proofs.«01_k».proof.Proof.Spec

@[expose] public section

noncomputable section

namespace Cert.Ncm

open Idealize.ShloMosaic
open Cert.KernelIdeal Cert.KernelIdeal.Gen

/-- The body's stored block at row `r`, class `l`. -/
theorem pay_apply (x : FVec Ideal S512x128 .f32) (mu : FVec Ideal S1000x128 .f32) (ck : FVec Ideal S1x1000 .f32)
    (r : Fin 512) (l : Fin 1000) :
    k0_pay1 (F := Ideal) x mu ck (ix2 r l)
      = entry (fun k => x (ix2 r k)) (fun l k => mu (ix2 l k)) (fun l => ck (ix2 0 l)) l := by
  unfold entry least
  simp only [← score_expanded, ← ofBits_inf]
  pointwise [k0_pay1]

end Cert.Ncm

end
-- ==== Proof.KernelArray.lean ====
/-
  The kernel's result array after the run: the two points write the two halves of the rows, and each half is the array
  of `entry` of the arguments.
-/
module

public import proofs.«01_k».proof.Proof.Gen.KernelIdeal.Value
public import proofs.«01_k».proof.Proof.Payload
public import Idealize.ShloMosaic.Lib.StableHlo.Run

@[expose] public section

noncomputable section

namespace Cert.Ncm

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The array of `entry` of device `c`'s arguments. -/
def kerArray (c : Dev nD) : Buf (Elt Ideal) ((c : Thread nD τ).loc main_v0) := fun i : S1024x1000.Idx =>
  entry (fun k => (m ((c : Thread nD τ).loc main_arg0) : S1024x128.Idx → EReal) (ix2 (i 0) k))
    (fun l k => (m ((c : Thread nD τ).loc main_arg1) : S1000x128.Idx → EReal) (ix2 l k))
    (fun l => (m ((c : Thread nD τ).loc main_arg2) : S1000.Idx → EReal) (ix1 l)) (i 1)

/-- Where each window's block sits at point `t`: samples and results move by one block of rows a point, the class
    means and the counts stay. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

/-- The counts as the region finds them: the one row holding the argument's entries. -/
theorem counts_row (c : Dev nD) (l : Fin 1000) :
    (V m c main_call0_v0 : S1x1000.Idx → EReal) (ix2 0 l)
      = (m ((c : Thread nD τ).loc main_arg2) : S1000.Idx → EReal) (ix1 l) := by
  have h : V m c main_call0_v0
      = shapeCast S1x1000 (m ((c : Thread nD τ).loc main_arg2) : S1000.Idx → EReal) shapeCasts_S1000_S1x1000 := by
    unfold V hostOps0
    after_results <;> rfl
  rw [h]
  pointwise

/-- Row `r` of point `t`'s block is a row of the array. -/
theorem row_lt (t : Fin cfg0.N) (r : Fin 512) : t.val * 512 + r.val < 1024 := by
  have := t.isLt; have h : cfg0.N = 2 := N_0; omega

/-- The samples' block at point `t`. -/
theorem samples_blk (c : Dev nD) (t : Fin cfg0.N) (r : Fin 512) (k : Fin 128) :
    (iblk m c 0 t : S512x128.Idx → EReal) (ix2 r k)
      = (m ((c : Thread nD τ).loc main_arg0) : S1024x128.Idx → EReal) (ix2 ⟨t.val * 512 + r.val, row_lt t r⟩ k) := by
  obtain ⟨⟨h0, h1⟩, -⟩ := idx_facts t
  rw [← V_main_arg0 m c]
  show (V m c main_arg0 : S1024x128.Idx → EReal) ((win0_0.rect t).emb (ix2 r k)) = _
  refine congrArg _ (Shape.idx_ext₂ ?_ ?_)
  · rw [win0_0.rect_emb_val t _ (0 : Fin 2), h0]; rfl
  · rw [win0_0.rect_emb_val t _ (1 : Fin 2), h1]; exact Nat.zero_add _

/-- The class means' block, at every point the whole array. -/
theorem means_blk (c : Dev nD) (t : Fin cfg0.N) (l : Fin 1000) (k : Fin 128) :
    (iblk m c 1 t : S1000x128.Idx → EReal) (ix2 l k)
      = (m ((c : Thread nD τ).loc main_arg1) : S1000x128.Idx → EReal) (ix2 l k) := by
  obtain ⟨-, ⟨h0, h1⟩, -⟩ := idx_facts t
  rw [← V_main_arg1 m c]
  show (V m c main_arg1 : S1000x128.Idx → EReal) ((win0_1.rect t).emb (ix2 l k)) = _
  exact congrArg _ (Shape.idx_ext₂ (win0_1.rect_emb_val_of_index_zero t (0 : Fin 2) h0 _)
    (win0_1.rect_emb_val_of_index_zero t (1 : Fin 2) h1 _))

/-- The counts' block, at every point the whole row. -/
theorem counts_blk (c : Dev nD) (t : Fin cfg0.N) (l : Fin 1000) :
    (iblk m c 2 t : S1x1000.Idx → EReal) (ix2 0 l)
      = (m ((c : Thread nD τ).loc main_arg2) : S1000.Idx → EReal) (ix1 l) := by
  obtain ⟨-, -, ⟨h0, h1⟩, -⟩ := idx_facts t
  rw [← counts_row m c]
  show (V m c main_call0_v0 : S1x1000.Idx → EReal) ((win0_2.rect t).emb (ix2 0 l)) = _
  exact congrArg _ (Shape.idx_ext₂ (win0_2.rect_emb_val_of_index_zero t (0 : Fin 2) h0 _)
    (win0_2.rect_emb_val_of_index_zero t (1 : Fin 2) h1 _))

/-- The offsets of the body's accesses are zero. -/
theorem off_zero : (![0, 0] : Fin 2 → Nat) = fun _ => 0 := funext fun a => by fin_cases a <;> rfl

/-- WHAT POINT `t` WRITES BACK is its block of `kerArray`. -/
theorem flushed_eq (c : Dev nD) (t : Fin cfg0.N) :
    (dats m 0 c).flushed 3 t = ((cfg0.win 3).blk t).view.read (Elt Ideal) (kerArray m c) := by
  rw [Value.flushed3]
  unfold out0_3
  rw [View.canon_unit_zero off_zero, View.ld_unit_zero off_zero, View.ld_unit_zero off_zero, View.ld_unit_zero off_zero]
  funext y
  obtain ⟨r, l, rfl⟩ : ∃ (r : Fin 512) (l : Fin 1000), y = ix2 r l := ⟨y 0, y 1, eq_ix2 (y : S512x1000.Idx)⟩
  obtain ⟨-, -, -, h0, h1⟩ := idx_facts t
  have e : ((win0_3.rect t).emb (ix2 r l) : S1024x1000.Idx) = ix2 ⟨t.val * 512 + r.val, row_lt t r⟩ l := by
    refine Shape.idx_ext₂ ?_ ?_
    · rw [win0_3.rect_emb_val t _ (0 : Fin 2), h0]; rfl
    · rw [win0_3.rect_emb_val t _ (1 : Fin 2), h1]; exact Nat.zero_add _
  have hr : ((cfg0.win 3).blk t).view.read (Elt Ideal) (kerArray m c) (ix2 r l)
      = kerArray m c (ix2 ⟨t.val * 512 + r.val, row_lt t r⟩ l) := congrArg (kerArray m c) e
  refine Eq.trans ?_ hr.symm
  refine (pay_apply (iblk m c 0 t) (iblk m c 1 t) (iblk m c 2 t) r l).trans ?_
  simp only [samples_blk, means_blk, counts_blk]
  rfl

/-- Membership of an index in point `t`'s block, axis by axis. -/
theorem mem_blk (t : Fin cfg0.N) (i : S1024x1000.Idx) :
    i ∈ ((cfg0.win 3).blk t).view.set
      ↔ ∀ a : Fin 2, win0_3.index t a * S512x1000.size a ≤ (i a : Nat)
        ∧ (i a : Nat) < win0_3.index t a * S512x1000.size a + S512x1000.size a := by
  show i ∈ ((View.whole main_v0).slice (win0_3.rect t)).set ↔ _
  rw [View.set_slice_whole, Rect.mem_set_unit]
  exact Iff.rfl

/-- The two blocks cover the array. -/
theorem cover (i : S1024x1000.Idx) :
    ∃ t : Fin cfg0.N, (cfg0.win 3).flush t = true ∧ i ∈ ((cfg0.win 3).blk t).view.set := by
  have i0 : (i 0 : Nat) < 1024 := (i 0).isLt
  have i1 : (i 1 : Nat) < 1000 := (i 1).isLt
  have hN : cfg0.N = 2 := N_0
  refine ⟨⟨(i 0 : Nat) / 512, by omega⟩, flush0_3 _, ?_⟩
  rw [mem_blk]
  obtain ⟨-, -, -, h0, h1⟩ := idx_facts ⟨(i 0 : Nat) / 512, by omega⟩
  rw [Fin.forall_fin_two, h0, h1]
  refine ⟨⟨?_, ?_⟩, ?_, ?_⟩
  · show (i 0 : Nat) / 512 * 512 ≤ _; omega
  · show _ < (i 0 : Nat) / 512 * 512 + 512; omega
  · show 0 * 1000 ≤ (i 1 : Nat); omega
  · show (i 1 : Nat) < 0 * 1000 + 1000; omega

/-- The kernel runs to its result array at `kerArray`, its arguments unchanged. -/
theorem ker_run : θ_run defs (onTc (τ := τ) (main (F := Ideal))) ⟨m, fun _ => 0, ρ⟩ fun r => ∀ c : Dev nD,
      r.2.mem ((c : Thread nD τ).loc main_v0) = kerArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
      ((dats m 0 c).arrAt_eq_of_cover 3 (kerArray m c) (fun t _ => flushed_eq m c t) cover), (h c).2⟩)
    (Value.run_blocks (F := Ideal) m ρ)

end Cert.Ncm

end
-- ==== Proof.Reference.lean ====
/-
  The reference's result, read at an index, is `entry` of the sample's row, the class means and the counts.
-/
module

public import proofs.«01_k».proof.Proof.Gen.ReferenceIdeal.Run
public import proofs.«01_k».proof.Proof.Spec

@[expose] public section

noncomputable section

namespace Cert.Ncm

open Idealize.ShloMosaic Idealize.ShloMosaic.TcCoe Idealize.SL.Sem
open Cert.ReferenceIdeal Cert.ReferenceIdeal.Gen

/-- The composed host operations at sample `r`, class `l`. -/
theorem ref_apply (X : FVec Ideal S1024x128 .f32) (M : FVec Ideal S1000x128 .f32) (C : FVec Ideal S1000 .f32)
    (r : Fin 1024) (l : Fin 1000) :
    select (broadcastInDim S1024x1000 ![0, 1] bcast_S1x1000_S1024x1000_0_1 (broadcastInDim S1x1000 ![1] bcast_S1000_S1x1000_1 (cmpf .oeq C (broadcastInDim S1000 ![] bcast_S_S1000 (constant S_ .f32 0x00000000#32))))) (broadcastInDim S1024x1000 ![0, 1] bcast_S1024x1_S1024x1000_0_1 (subf (broadcastInDim S1024x1 ![0] bcast_S1024_S1024x1_0 (Host.reduce FloatOps.minimumf (Host.negf (Host.reduceAdd (mulf (subf (broadcastInDim S1024x1000x128 ![0, 1, 2] bcast_S1x1000x128_S1024x1000x128_0_1_2 (broadcastInDim S1x1000x128 ![1, 2] bcast_S1000x128_S1x1000x128_1_2 M)) (broadcastInDim S1024x1000x128 ![0, 1, 2] bcast_S1024x1x128_S1024x1000x128_0_1_2 (shapeCast _ X shapeCasts_S1024x128_S1024x1x128))) (subf (broadcastInDim S1024x1000x128 ![0, 1, 2] bcast_S1x1000x128_S1024x1000x128_0_1_2 (broadcastInDim S1x1000x128 ![1, 2] bcast_S1000x128_S1x1000x128_1_2 M)) (broadcastInDim S1024x1000x128 ![0, 1, 2] bcast_S1024x1x128_S1024x1000x128_0_1_2 (shapeCast _ X shapeCasts_S1024x128_S1024x1x128)))) (constant S_ .f32 0x00000000#32) reducesTo_S1024x1000x128_S1024x1000_d2 h_S_)) (constant S_ .f32 0x7F800000#32) reducesTo_S1024x1000_S1024_d1 h_S_)) (broadcastInDim S1024x1 ![] bcast_S_S1024x1 (constant S_ .f32 0x3F800000#32)))) (Host.negf (Host.reduceAdd (mulf (subf (broadcastInDim S1024x1000x128 ![0, 1, 2] bcast_S1x1000x128_S1024x1000x128_0_1_2 (broadcastInDim S1x1000x128 ![1, 2] bcast_S1000x128_S1x1000x128_1_2 M)) (broadcastInDim S1024x1000x128 ![0, 1, 2] bcast_S1024x1x128_S1024x1000x128_0_1_2 (shapeCast _ X shapeCasts_S1024x128_S1024x1x128))) (subf (broadcastInDim S1024x1000x128 ![0, 1, 2] bcast_S1x1000x128_S1024x1000x128_0_1_2 (broadcastInDim S1x1000x128 ![1, 2] bcast_S1000x128_S1x1000x128_1_2 M)) (broadcastInDim S1024x1000x128 ![0, 1, 2] bcast_S1024x1x128_S1024x1000x128_0_1_2 (shapeCast _ X shapeCasts_S1024x128_S1024x1x128)))) (constant S_ .f32 0x00000000#32) reducesTo_S1024x1000x128_S1024x1000_d2 h_S_)) (ix2 r l)
      = entry (fun k => X (ix2 r k)) (fun l k => M (ix2 l k)) (fun l => C (ix1 l)) l := by
  unfold entry least score
  simp only [← ofBits_inf]
  pointwise

variable (m : (ℓ : Loc nD τ sig) → Buf (Elt Ideal) ℓ) (ρ : Dev nD → PrngReg)

/-- The array of `entry` of device `c`'s arguments. -/
def refArray (c : Dev nD) : Buf (Elt Ideal) ((c : Thread nD τ).loc main_v19) := fun i : S1024x1000.Idx =>
  entry (fun k => (m ((c : Thread nD τ).loc main_arg0) : S1024x128.Idx → EReal) (ix2 (i 0) k))
    (fun l k => (m ((c : Thread nD τ).loc main_arg1) : S1000x128.Idx → EReal) (ix2 l k))
    (fun l => (m ((c : Thread nD τ).loc main_arg2) : S1000.Idx → EReal) (ix1 l)) (i 1)

/-- The reference runs to its result array at `refArray`, its arguments unchanged. -/
theorem ref_run : θ_run defs (onTc (τ := τ) (main (F := Ideal))) ⟨m, fun _ => 0, ρ⟩ fun r => ∀ c : Dev nD,
      r.2.mem ((c : Thread nD τ).loc main_v19) = refArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (funext fun i : S1024x1000.Idx => by
      obtain ⟨a, b, rfl⟩ : ∃ (a : Fin 1024) (b : Fin 1000), i = ix2 a b := ⟨i 0, i 1, eq_ix2 i⟩
      exact ref_apply _ _ _ a b), (h c).2⟩)
    (Cert.ReferenceIdeal.Value.run (F := Ideal) m ρ)

end Cert.Ncm

end
-- ==== Proof.lean ====
/-
  The certificate of the nearest-class-mean scores: the frames, and that the tiled kernel's expanded formula and the
  plain sum of squared differences are one function over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelArray
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates, keeps its arguments, and has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From the same arguments kernel and reference end with the same result array. -/
theorem algebraic : Cert.algebraic_KernelIdeal_ReferenceIdeal := by
  intro m ρ m' ρ' _ hagree
  refine ⟨fun c => Cert.Ncm.kerArray m c, Cert.Ncm.ker_run m ρ, ?_⟩
  refine (θ_run Cert.ReferenceIdeal.defs _ _).mono (fun _ h c => ⟨(h c).1.trans ?_, (h c).2⟩) (Cert.Ncm.ref_run m' ρ')
  unfold Cert.Ncm.refArray Cert.Ncm.kerArray
  rw [(hagree c).1, (hagree c).2.1, (hagree c).2.2]

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  algebraic⟩

end Cert.Proof

end
